-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S4x8192x1024 : Shape := ⟨3, ![4, 8192, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .f32⟩
  | .local _ .vmem, ⟨3, _⟩ => ⟨S4x1024x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S4x8192, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S_, .i32⟩
  | .hbm, ⟨10, _⟩ => ⟨S4x8192, .i32⟩
  | .hbm, ⟨11, _⟩ => ⟨S4x8192, .i32⟩
  | .hbm, ⟨12, _⟩ => ⟨S_, .i32⟩
  | .hbm, ⟨13, _⟩ => ⟨S4x8192, .i32⟩
  | .hbm, ⟨14, _⟩ => ⟨S4x8192, .i1⟩
  | .hbm, ⟨15, _⟩ => ⟨S_, .i32⟩
  | .hbm, ⟨16, _⟩ => ⟨S4x8192, .i32⟩
  | .hbm, ⟨17, _⟩ => ⟨S4x8192, .i32⟩
  | .hbm, ⟨18, _⟩ => ⟨S4x8192, .i32⟩
  | .hbm, ⟨19, _⟩ => ⟨S4x8192x1, .i32⟩
  | .hbm, ⟨20, _⟩ => ⟨S1, .i32⟩
  | .hbm, ⟨21, _⟩ => ⟨S_, .i32⟩
  | .hbm, ⟨22, _⟩ => ⟨S4x8192x1, .i32⟩
  | .hbm, ⟨23, _⟩ => ⟨S4x8192x1, .i1⟩
  | .hbm, ⟨24, _⟩ => ⟨S1x1x1, .i32⟩
  | .hbm, ⟨25, _⟩ => ⟨S4x8192x1, .i32⟩
  | .hbm, ⟨26, _⟩ => ⟨S4x8192x1, .i1⟩
  | .hbm, ⟨27, _⟩ => ⟨S4x8192x1, .i1⟩
  | .hbm, ⟨28, _⟩ => ⟨S_, .i1⟩
  | .hbm, ⟨29, _⟩ => ⟨S4x8192, .i1⟩
  | .hbm, ⟨30, _⟩ => ⟨S4x8192x1024, .f32⟩
  | .hbm, ⟨31, _⟩ => ⟨S4x8192x1024, .i1⟩
  | .hbm, ⟨32, _⟩ => ⟨S_, .f32⟩
  | .hbm, ⟨33, _⟩ => ⟨S4x8192x1024, .f32⟩
  | .hbm, ⟨34, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v3 : Ref sig .tc := ⟨.hbm, 34, rfl⟩

abbrev nD : Nat := 1
abbrev τ : Topo := Topo.v7x

variable {F : FTy → Type} [FloatOps F]
-- ==== Proof.Value.Lookup.lean ====
/-
  What the table lookup of the reference is, as a function of the table alone.

  `spread x` puts the (8192, 1024) table `x` under each of the four batch rows: entry `(b, s, e)` is `x (s, e)`.
  `lookup x` is the reference's text over arrays: the positions 0, 1, …, 8191 in each of four rows, clipped to
  [0, 8191], a negative one moved up by 8192, the rows of `x` gathered at them, and a NaN at each position that is
  outside [0, 8191]. `lookup_eq_spread`: the two are one array, over any type of float values. The steps:

    `clipped_eq`  — clipping changes no position;
    `wrapped_eq`  — no position is negative, so none is moved;
    `valid_eq`    — every position is in bounds, so no NaN is selected;
    `gather_rows` — the gather at `(b, s, e)` is the table at the start index `(b, s)`, clamped into the table, and `e`.
-/
module

public import Idealize.ShloMosaic.PureOps.BitExact
public import Idealize.ShloMosaic.Lib.ValueIdxCore
public import Idealize.ShloMosaic.Lib.ReduceAll
public import Idealize.ShloMosaic.Lib.Pipeline.Value

@[expose] public section

noncomputable section

namespace Cert.Lookup

open Idealize.ShloMosaic

/-! ## The shapes -/

/-- The table's shape, -/
abbrev Table : Shape := ⟨2, ![8192, 1024]⟩
/-- the result's, -/
abbrev Out : Shape := ⟨3, ![4, 8192, 1024]⟩
/-- the positions', -/
abbrev Pos : Shape := ⟨2, ![4, 8192]⟩
/-- the gather's start indices', one component each, -/
abbrev Start : Shape := ⟨3, ![4, 8192, 1]⟩
/-- one row of positions, -/
abbrev Row : Shape := ⟨1, ![8192]⟩
/-- a scalar's, -/
abbrev Scal : Shape := ⟨0, ![]⟩
/-- and the two shapes that the upper bound passes through. -/
abbrev One1 : Shape := ⟨1, ![1]⟩
abbrev One3 : Shape := ⟨3, ![1, 1, 1]⟩

/-- The table index under result index `(b, s, e)`: `(s, e)`. -/
abbrev under (y : Out.Idx) : Table.Idx :=
  fun a => match a with | ⟨0, _⟩ => ⟨(y 1).val, (y 1).isLt⟩ | ⟨1, _⟩ => ⟨(y 2).val, (y 2).isLt⟩

/-- The start-index entry that result index `(b, s, e)` is gathered at: `(b, s, 0)`. -/
abbrev startOf (y : Out.Idx) : Start.Idx :=
  fun a => match a with
    | ⟨0, _⟩ => ⟨(y 0).val, (y 0).isLt⟩ | ⟨1, _⟩ => ⟨(y 1).val, (y 1).isLt⟩ | ⟨2, _⟩ => ⟨0, Nat.one_pos⟩

/-- The table under each batch row. -/
def spread {α : Type} (x : Table.Idx → α) : Out.Idx → α := fun y => x (under y)

/-- Position `(b, s)` is `s`. -/
def positions : IVec Pos 32 := fun y => BitVec.ofNat 32 (y 1).val

/-! ## One position: the words -/

/-- A number below 8192 as a 32-bit word, read signed, is itself. -/
theorem toInt_ofNat_small {n : Nat} (h : n < 8192) : (BitVec.ofNat 32 n).toInt = (n : Int) := by
  rw [BitVec.toInt_eq_toNat_of_lt (by rw [BitVec.toNat_ofNat]; omega), BitVec.toNat_ofNat]
  omega

/-- Clipping to [0, 8191] leaves it as it is. -/
theorem clip_word {n : Nat} (h : n < 8192) :
    IntOp.minsi 8191#32 (IntOp.maxsi 0#32 (BitVec.ofNat 32 n)) = BitVec.ofNat 32 n := by
  have hn := toInt_ofNat_small h
  have h0 : (0#32 : BitVec 32).toInt = 0 := by decide
  have h1 : (8191#32 : BitVec 32).toInt = 8191 := by decide
  have hmax : IntOp.maxsi 0#32 (BitVec.ofNat 32 n) = BitVec.ofNat 32 n := by
    unfold IntOp.maxsi
    refine if_neg fun hc => ?_
    rw [BitVec.slt_iff_toInt_lt, hn, h0] at hc
    omega
  rw [hmax]
  unfold IntOp.minsi
  refine if_neg fun hc => ?_
  rw [BitVec.slt_iff_toInt_lt, hn, h1] at hc
  omega

/-- It is not negative, -/
theorem not_neg_word {n : Nat} (h : n < 8192) : IntOp.cmpi .slt (BitVec.ofNat 32 n) 0#32 = 0#1 := by
  refine ValueIdx.eq_zero_of_ne_one fun hc => ?_
  rw [IntOp.cmpi_slt, toInt_ofNat_small h] at hc
  have h0 : (0#32 : BitVec 32).toInt = 0 := by decide
  omega

/-- and it is in bounds. -/
theorem inBounds_word {n : Nat} (h : n < 8192) :
    IntOp.andi (IntOp.cmpi .sge (BitVec.ofNat 32 n) 0#32) (IntOp.cmpi .sle (BitVec.ofNat 32 n) 8191#32) = 1#1 := by
  have h0 : (0#32 : BitVec 32).toInt = 0 := by decide
  have h1 : (8191#32 : BitVec 32).toInt = 8191 := by decide
  have e0 : IntOp.cmpi .sge (BitVec.ofNat 32 n) 0#32 = 1#1 := by
    rw [IntOp.cmpi_sge, toInt_ofNat_small h]; omega
  have e1 : IntOp.cmpi .sle (BitVec.ofNat 32 n) 8191#32 = 1#1 := by
    rw [IntOp.cmpi_sle, toInt_ofNat_small h]; omega
  rw [e0, e1]
  decide

/-! ## The reference's text over arrays, its side conditions as arguments -/

/-- The layout relations that the broadcasts and the reduction of the reference ask for. -/
structure Layout : Prop where
  row : Row.BroadcastsInDim Pos (![1] : Fin 1 → Fin Pos.rank)
  pos : Scal.BroadcastsInDim Pos (![] : Fin 0 → Fin Pos.rank)
  col : Pos.BroadcastsInDim Start (![0, 1] : Fin 2 → Fin Start.rank)
  start : Scal.BroadcastsInDim Start (![] : Fin 0 → Fin Start.rank)
  one : One1.BroadcastsInDim One3 (![2] : Fin 1 → Fin One3.rank)
  bound : One3.BroadcastsInDim Start (![0, 1, 2] : Fin 3 → Fin Start.rank)
  drop : Start.ReducesTo [2] Pos
  scal : 0 < Scal.numel
  mask : Pos.BroadcastsInDim Out (![0, 1] : Fin 2 → Fin Out.rank)
  out : Scal.BroadcastsInDim Out (![] : Fin 0 → Fin Out.rank)
  wf : GatherDims.WF Table Start Out [2] [0] [] [0] [] 2 ![1, 1024]

variable (L : Layout)

/-- The positions of each row, clipped to [0, 8191]. -/
def clipped : IVec Pos 32 :=
  minsi (broadcastInDim Pos ![] L.pos (id (constantI Scal 32 8191#32)))
    (maxsi (broadcastInDim Pos ![] L.pos (id (constantI Scal 32 0#32)))
      (broadcastInDim Pos ![1] L.row (iotaInDim Row 32 0)))

/-- Positions with the negative ones moved up by 8192. -/
def wrapped (p : IVec Pos 32) : IVec Pos 32 :=
  select (cmpi .slt p (broadcastInDim Pos ![] L.pos (constantI Scal 32 0#32)))
    (addi p (broadcastInDim Pos ![] L.pos (constantI Scal 32 8192#32))) p

/-- Positions as start indices of one component. -/
def column (p : IVec Pos 32) : IVec Start 32 := broadcastInDim Start ![0, 1] L.col p

/-- Where a start index is in [0, 8191]. -/
def valid (q : IVec Start 32) : IVec Pos 1 :=
  Host.reduce IntOp.andi
    (andi (cmpi .sge q (broadcastInDim Start ![] L.start (constantI Scal 32 0#32)))
      (cmpi .sle q (broadcastInDim Start ![0, 1, 2] L.bound (broadcastInDim One3 ![2] L.one (constantI One1 32 8191#32)))))
    (constantI Scal 1 1#1) L.drop L.scal

/-- The dimension numbers of the gather of whole table rows at a (4, 8192) array of row numbers. -/
abbrev rowDims (wf : GatherDims.WF Table Start Out [2] [0] [] [0] [] 2 ![1, 1024]) : GatherDims Table Start Out where
  offsetDims := [2]
  collapsedSliceDims := [0]
  operandBatchingDims := []
  startIndicesBatchingDims := []
  startIndexMap := [0]
  indexVectorDim := 2
  sliceSizes := ![1, 1024]
  wf := wf

/-- The rows of `x` at start indices `q`, a NaN where a start index is out of bounds. -/
def taken {F : FTy → Type} [FloatOps F] (x : Vec F Table .f32) (q : IVec Start 32) : Vec F Out .f32 :=
  select (broadcastInDim Out ![0, 1] L.mask (valid L q)) (Host.gather (rowDims L.wf) x q)
    (broadcastInDim Out ![] L.out (constant Scal .f32 0x7FC00000#32))

/-- The whole reference. -/
def lookup {F : FTy → Type} [FloatOps F] (x : Vec F Table .f32) : Vec F Out .f32 :=
  taken L x (column L (wrapped L (clipped L)))

/-! ## The steps -/

/-- Clipping changes no position. -/
theorem clipped_eq : clipped L = positions := by
  funext y
  have hrow : broadcastInDim Pos ![1] L.row (iotaInDim Row 32 0) y = BitVec.ofNat 32 (y 1).val :=
    broadcastInDim_apply _ _ _ y (fun a => match a with | ⟨0, _⟩ => ⟨(y 1).val, (y 1).isLt⟩ : Row.Idx)
      fun a => match a with | ⟨0, _⟩ => (if_neg (show ¬(8192 : Nat) = 1 by decide)).symm
  show IntOp.minsi 8191#32 (IntOp.maxsi 0#32 (broadcastInDim Pos ![1] L.row (iotaInDim Row 32 0) y)) = _
  rw [hrow]
  exact clip_word (y 1).isLt

/-- No position is negative, so none is moved. -/
theorem wrapped_eq : wrapped L positions = positions := by
  funext y
  show Scalar.select (IntOp.cmpi .slt (BitVec.ofNat 32 (y 1).val) 0#32) _ _ = _
  rw [not_neg_word (y 1).isLt, ValueIdx.select_zero]

/-- The start index at `(b, s, 0)` is `s`. -/
theorem column_apply (z : Start.Idx) : column L positions z = BitVec.ofNat 32 (z 1).val :=
  broadcastInDim_apply _ _ _ z
    (fun a => match a with | ⟨0, _⟩ => ⟨(z 0).val, (z 0).isLt⟩ | ⟨1, _⟩ => ⟨(z 1).val, (z 1).isLt⟩ : Pos.Idx)
    fun a => match a with
      | ⟨0, _⟩ => (if_neg (show ¬(4 : Nat) = 1 by decide)).symm
      | ⟨1, _⟩ => (if_neg (show ¬(8192 : Nat) = 1 by decide)).symm

/-- Every start index is in bounds. -/
theorem valid_eq (p : Pos.Idx) : valid L (column L positions) p = 1#1 := by
  refine Host.reduce_andi_one _ _ _ _ _ rfl fun z => ?_
  show IntOp.andi (IntOp.cmpi .sge (column L positions z) 0#32) (IntOp.cmpi .sle (column L positions z) 8191#32) = 1#1
  rw [column_apply]
  exact inBounds_word (z 1).isLt

/-- THE GATHER AT `(b, s, e)`: the table at the row that start index `(b, s, 0)` names, read signed and clamped into
    [0, 8191], and column `e`. -/
theorem gather_rows {α : Type} (wf : GatherDims.WF Table Start Out [2] [0] [] [0] [] 2 ![1, 1024])
    (x : Table.Idx → α) (q : IVec Start 32) (y : Out.Idx) :
    Host.gather (rowDims wf) x q y
      = x (fun a => match a with
          | ⟨0, _⟩ => ⟨min (q (startOf y)).toInt.toNat 8191, by show _ < 8192; omega⟩
          | ⟨1, _⟩ => ⟨(y 2).val, (y 2).isLt⟩) := by
  have hstart : (rowDims wf).siIdx y ⟨List.idxOf (0 : Fin 2) (rowDims wf).startIndexMap,
      List.idxOf_lt_length_iff.2 (List.mem_singleton.mpr rfl)⟩ = startOf y :=
    funext fun b => Fin.ext (match b with | ⟨0, _⟩ => rfl | ⟨1, _⟩ => rfl | ⟨2, _⟩ => rfl)
  refine congrArg x (funext fun a => Fin.ext ?_)
  show (rowDims wf).start y q a + (rowDims wf).batchCoord y a + (rowDims wf).offCoord y a = _
  rw [GatherDims.batchCoord_eq_zero _ _ _ List.not_mem_nil]
  match a with
  | ⟨0, _⟩ =>
    have hoff : (rowDims wf).offCoord y (0 : Fin 2) = 0 :=
      GatherDims.offCoord_eq_zero _ _ _ fun h => ((GatherDims.mem_sKept _ _).mp h).1 (List.mem_singleton.mpr rfl)
    have hst : (rowDims wf).start y q (0 : Fin 2) = min (q (startOf y)).toInt.toNat 8191 := by
      unfold GatherDims.start
      rw [dif_pos (show (0 : Fin 2) ∈ (rowDims wf).startIndexMap from List.mem_singleton.mpr rfl), hstart]
      rfl
    show (rowDims wf).start y q (0 : Fin 2) + 0 + (rowDims wf).offCoord y (0 : Fin 2) = _
    rw [hoff, hst]
    rfl
  | ⟨1, _⟩ =>
    have hst : (rowDims wf).start y q (1 : Fin 2) = 0 := by
      unfold GatherDims.start
      exact dif_neg (show ¬(1 : Fin 2) ∈ [(0 : Fin 2)] by decide)
    have hoff : (rowDims wf).offCoord y (1 : Fin 2) = (y 2).val := rfl
    show (rowDims wf).start y q (1 : Fin 2) + 0 + (rowDims wf).offCoord y (1 : Fin 2) = (y 2).val
    rw [hst, hoff]
    omega

/-- The rows gathered at the positions 0, …, 8191 of each batch row are the table under each batch row. -/
theorem gather_positions {α : Type} (x : Table.Idx → α) :
    Host.gather (rowDims L.wf) x (column L positions) = spread x := by
  funext y
  rw [gather_rows]
  refine congrArg x (funext fun a => Fin.ext ?_)
  match a with
  | ⟨0, _⟩ =>
    show min (column L positions (startOf y)).toInt.toNat 8191 = (y 1).val
    have h : (y 1).val < 8192 := (y 1).isLt
    rw [column_apply, show ((startOf y) 1).val = (y 1).val from rfl, toInt_ofNat_small h]
    omega
  | ⟨1, _⟩ => rfl

/-- THE REFERENCE'S LOOKUP IS THE TABLE UNDER EACH BATCH ROW. -/
theorem lookup_eq_spread {F : FTy → Type} [FloatOps F] (x : Vec F Table .f32) : lookup L x = spread x := by
  unfold lookup
  rw [clipped_eq, wrapped_eq]
  unfold taken
  rw [gather_positions]
  funext y
  have hm : broadcastInDim Out ![0, 1] L.mask (valid L (column L positions)) y = 1#1 := by
    rw [broadcastInDim_apply _ _ _ y
      (fun a => match a with | ⟨0, _⟩ => ⟨(y 0).val, (y 0).isLt⟩ | ⟨1, _⟩ => ⟨(y 1).val, (y 1).isLt⟩ : Pos.Idx)
      (fun a => match a with
        | ⟨0, _⟩ => (if_neg (show ¬(4 : Nat) = 1 by decide)).symm
        | ⟨1, _⟩ => (if_neg (show ¬(8192 : Nat) = 1 by decide)).symm)]
    exact valid_eq L _
  rw [ValueIdx.select_apply, hm, ValueIdx.select_one]

end Cert.Lookup

end
-- ==== Proof.Value.KernelIdeal.lean ====
/-
  What the array of `KernelIdeal` holds after the run: the table under each batch row (`Lookup.spread`).

  `block_apply`: the body's output block holds the staged table block under each batch row. `final`: point `t`
  stages table rows 1024 t … 1024 t + 1023 and writes them back to the same rows of every batch row; the eight
  blocks cover the result array, so the whole array is the table under each batch row. `run`: the run ends so.
-/
module

public import proofs.«01_k».proof.Proof.Gen.KernelIdeal.Value
public import proofs.«01_k».proof.Proof.Value.Lookup
public import Idealize.ShloMosaic.Lib.Pipeline.ValueKit

@[expose] public section

noncomputable section

namespace Cert.KernelIdeal.Spread

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's block at `(b, r, e)` is the staged table block at `(r, e)`. -/
theorem block_apply (P : Vec F S1024x1024 .f32) (y : S4x1024x1024.Idx) : out0_1 P y = P (Value.ix1_0 y) := by
  have hz : (![0, 0] : Fin 2 → Nat) = fun _ => 0 := funext fun a => by fin_cases a <;> rfl
  unfold out0_1
  rw [View.ld_unit_zero hz]
  exact Value.canon1_eq P y

/-- Point `t` stages the table's block of rows `t`, -/
theorem index_in : ∀ t : Fin cfg0.N, win0_0.index t = ![t.val, 0] :=
  (by decide +kernel : ∀ t : Fin grid0.N, win0_0.index t = ![t.val, 0])

/-- and writes back the result's block of rows `t`. -/
theorem index_out : ∀ t : Fin cfg0.N, win0_1.index t = ![0, t.val, 0] :=
  (by decide +kernel : ∀ t : Fin grid0.N, win0_1.index t = ![0, t.val, 0])

/-- The result array after the run is the table under each batch row. -/
theorem final (c : Dev nD) :
    (dats m 0 c).arrAt 1 cfg0.N = Lookup.spread (m ((c : Thread nD τ).loc main_arg1)) := by
  refine (dats m 0 c).arrAt_eq_of_covers 1 _ (by decide +kernel) fun t _ y => ?_
  blk_simp
  rw [after0_1, block_apply]
  blk_simp [iblk, V]
  unfold Lookup.spread
  blk_ext [index_in t, index_out t]

/-- The run: the result array ends as the table under each batch row, the arguments unchanged. -/
theorem run : θ_run defs (onTc (τ := τ) (main (F := F))) ⟨m, fun _ => 0, ρ⟩ fun r => ∀ c : Dev nD,
      r.2.mem ((c : Thread nD τ).loc main_v0) = Lookup.spread (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Spread

end
-- ==== Proof.Value.ReferenceIdeal.lean ====
/-
  What `ReferenceIdeal` leaves in its result: the table under each batch row. Its run ends with the composed term of
  its operations, which is `Lookup.lookup` of the table; `Lookup.lookup_eq_spread` says what that is.
-/
module

public import proofs.«01_k».proof.Proof.Gen.ReferenceIdeal.Run
public import proofs.«01_k».proof.Proof.Value.Lookup

@[expose] public section

noncomputable section

namespace Cert.ReferenceIdeal.Spread

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The layout relations, as the program's own stated facts. -/
theorem layout : Lookup.Layout where
  row := Facts₀.bcast_S8192_S4x8192_1
  pos := Facts₀.bcast_S_S4x8192
  col := Facts₀.bcast_S4x8192_S4x8192x1_0_1
  start := Facts₀.bcast_S_S4x8192x1
  one := Facts₀.bcast_S1_S1x1x1_2
  bound := Facts₀.bcast_S1x1x1_S4x8192x1_0_1_2
  drop := Facts₀.reducesTo_S4x8192x1_S4x8192_d2
  scal := Facts₀.h_S_
  mask := Facts₀.bcast_S4x8192_S4x8192x1024_0_1
  out := Facts₀.bcast_S_S4x8192x1024
  wf := Facts₀.gather_S8192x1024_S4x8192x1_S4x8192x1024_2_0_n_n_0_2_11024_wf

/-- The run: the result ends as the table under each batch row, the arguments unchanged. -/
theorem run : θ_run defs (onTc (τ := τ) (main (F := F))) ⟨m, fun _ => 0, ρ⟩ fun r => ∀ c : Dev nD,
      r.2.mem ((c : Thread nD τ).loc main_v3) = Lookup.spread (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans (Lookup.lookup_eq_spread layout (m ((c : Thread nD τ).loc main_arg1))), (h c).2⟩)
    (Value.run m ρ)

end Cert.ReferenceIdeal.Spread

end
-- ==== Proof.lean ====
/-
  The certificate's claims. The frames of the two kernels are generated; each reference is a list of host operations
  that declares no semaphore. The two value claims have one reason: kernel and reference both end with the table under
  each batch row (`Lookup.spread`), over the extended reals (`algebraic`) and over the float words (`bitexact`).
-/
module

public import proofs.«01_k».proof.Defs
public import proofs.«01_k».proof.Proof.Gen.Kernel
public import proofs.«01_k».proof.Proof.Gen.Kernel.Frame
public import proofs.«01_k».proof.Proof.Gen.Kernel.Value
public import proofs.«01_k».proof.Proof.Gen.KernelIdeal
public import proofs.«01_k».proof.Proof.Gen.KernelIdeal.Frame
public import proofs.«01_k».proof.Proof.Gen.KernelIdeal.Value
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Value.Kernel
public import proofs.«01_k».proof.Proof.Value.KernelIdeal
public import proofs.«01_k».proof.Proof.Value.Reference
public import proofs.«01_k».proof.Proof.Value.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The reference over float words runs, leaves its arguments unchanged and has no semaphore to leave nonzero. -/
theorem frame_reference : Cert.quiescent_Reference := fun m ρ _ =>
  (θ_run Cert.Reference.defs _ _).mono
    (fun r h => ⟨fun c => (h c).2, sem_eq_zero_of_no_sems (by decide) r.2⟩) (Cert.Reference.Spread.run m ρ)

/-- The same over the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Spread.run m ρ)

/-- Over the extended reals, from memories that agree on the arguments, kernel and reference end with one array. -/
theorem algebraic : Cert.algebraic_KernelIdeal_ReferenceIdeal := fun m ρ m' ρ' _ agree =>
  ⟨fun c => Lookup.spread (m ((c.tc : Thread Cert.KernelIdeal.nD Cert.KernelIdeal.τ).loc Cert.KernelIdeal.main_arg1)),
    Cert.KernelIdeal.Spread.run m ρ,
    (θ_run Cert.ReferenceIdeal.defs _ _).mono
      (fun _ h c => ⟨(h c).1.trans (congrArg Lookup.spread (agree c).2), (h c).2⟩)
      (Cert.ReferenceIdeal.Spread.run m' ρ')⟩

/-- Over the float words, from memories that agree on the arguments, kernel and reference end with the same words. -/
theorem bitexact : Cert.bitexact_Kernel_Reference := fun m ρ m' ρ' _ agree =>
  ⟨fun c => Lookup.spread (m ((c.tc : Thread Cert.Kernel.nD Cert.Kernel.τ).loc Cert.Kernel.main_arg1)),
    Cert.Kernel.Spread.run m ρ,
    (θ_run Cert.Reference.defs _ _).mono
      (fun _ h c => ⟨(h c).1.trans (congrArg Lookup.spread (agree c).2), (h c).2⟩)
      (Cert.Reference.Spread.run m' ρ')⟩

/-- Everything this certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_referenceIdeal, trivial, algebraic, bitexact⟩

end Cert.Proof

end
